-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1 : Shape := ⟨1, ![1]⟩
abbrev S2x16384x1024 : Shape := ⟨3, ![2, 16384, 1024]⟩
abbrev S1x1024x1024 : Shape := ⟨3, ![1, 1024, 1024]⟩
abbrev S1x8x128 : Shape := ⟨3, ![1, 8, 128]⟩
abbrev S8x128 : Shape := ⟨2, ![8, 128]⟩

abbrev nBuf : Space → Nat
  | .hbm => 3
  | .vmem => 4
  | .smem => 1
  | _ => 0

abbrev bufTy : (tb : Table) → Fin (tcTables nBuf tb) → BufTy
  | .hbm, ⟨0, _⟩ => ⟨S1, .f32⟩
  | .hbm, ⟨1, _⟩ => ⟨S2x16384x1024, .f32⟩
  | .hbm, ⟨2, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1 : Shape := ⟨1, ![1]⟩
abbrev S2x16384x1024 : Shape := ⟨3, ![2, 16384, 1024]⟩
abbrev S_ : Shape := ⟨0, ![]⟩
abbrev S3 : Shape := ⟨1, ![3]⟩

abbrev nBuf : Space → Nat
  | .hbm => 13
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x16384x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S3, .i32⟩
  | .hbm, ⟨12, _⟩ => ⟨S2x16384x1024, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Cell.lean ====
/- What both programs compute, stated without either of them: the cache with twice the key added to its cell (1, 0, 1). -/
module

public import proofs.«01_k».proof.KernelIdeal
public import Idealize.ShloMosaic.Lib.ValueIdx

@[expose] public section

noncomputable section

namespace Cert.Proof.Cell

open Cert.KernelIdeal Idealize.ShloMosaic
open Idealize.ShloMosaic.ValueIdx

/-- The place of the one-element key. -/
abbrev keyAt : S1.Idx := ix1 (0 : Fin 1)

/-- The index is the updated cell's: plane 1, row 0, column 1. -/
abbrev IsCell (i : S2x16384x1024.Idx) : Prop := (i 0).val = 1 ∧ (i 1).val = 0 ∧ (i 2).val = 1

/-- The updated cache as one function of the key and the cache, over the extended reals. -/
def updated (key : Vec Ideal S1 .f32) (cache : Vec Ideal S2x16384x1024 .f32) : Vec Ideal S2x16384x1024 .f32 :=
  fun i => if IsCell i then (cache i + (2 * key keyAt : EReal) : EReal) else cache i

/-- The float word of 2.0 is the number two. -/
theorem ofBits_two : Ideal.ofBits .f32 0x40000000#32 = (2 : EReal) := by
  simp [Ideal.ofBits, Ideal.ieee, -EReal.coe_mul]
  norm_num
  rfl

/-- The zero word is the number zero. -/
theorem ofBits_zero : Ideal.ofBits .f32 0x00000000#32 = (0 : EReal) := by
  simp [Ideal.ofBits, Ideal.ieee]

end Cert.Proof.Cell

end
-- ==== Proof.Block.lean ====
/- What one grid point leaves in its output buffer, as a function of the key and of the cache block it was given: the
   block itself at every point but one (`out_copy`), and at that one the block with twice the key added at row 0,
   column 1 (`out_update`). -/
module

public import proofs.«01_k».proof.Proof.Gen.KernelIdeal.Value
public import proofs.«01_k».proof.Proof.Cell
public import Idealize.ShloMosaic.Lib.WritesUnit
public import Idealize.ShloMosaic.Lib.ValueLayout

@[expose] public section

noncomputable section

namespace Cert.Proof.Block

open Cert.KernelIdeal Cert.KernelIdeal.Gen Cert.Proof.Cell Idealize.ShloMosaic Idealize.ShloMosaic.TcCoe Idealize.SL.Sem
open Idealize.ShloMosaic.ValueIdx

theorem zeros : (![0, 0, 0] : Fin 3 → Nat) = fun _ => 0 := funext fun a => by fin_cases a <;> rfl

/-- The mask of the update's tile, a word comparison on each axis, is set at row 0, column 1 alone. -/
theorem mask_apply (r : Fin 8) (l : Fin 128) :
    Scalar.andi (Scalar.cmpi .eq (BitVec.ofNat 32 r.val) 0#32) (Scalar.cmpi .eq (BitVec.ofNat 32 l.val) 1#32)
      = if r.val = 0 ∧ l.val = 1 then 1#1 else 0#1 := by
  have hr : (BitVec.ofNat 32 r.val == 0#32) = decide (r.val = 0) := by
    rw [Bool.eq_iff_iff, beq_iff_eq, decide_eq_true_iff, ← BitVec.toNat_inj, BitVec.toNat_ofNat, BitVec.toNat_ofNat]; omega
  have hl : (BitVec.ofNat 32 l.val == 1#32) = decide (l.val = 1) := by
    rw [Bool.eq_iff_iff, beq_iff_eq, decide_eq_true_iff, ← BitVec.toNat_inj, BitVec.toNat_ofNat, BitVec.toNat_ofNat]; omega
  show BitVec.ofBool (BitVec.ofNat 32 r.val == 0#32) &&& BitVec.ofBool (BitVec.ofNat 32 l.val == 1#32) = _
  rw [hr, hl]
  by_cases h0 : r.val = 0 <;> by_cases h1 : l.val = 1 <;> simp [h0, h1]

/-- The tile the update writes: the tile it read, with twice the scalar it read added at row 0, column 1, and zero —
    which changes no extended real — added elsewhere. -/
theorem payload_apply (tile : Vec Ideal S1x8x128 .f32) (k : Ideal .f32) (u : Fin 1) (r : Fin 8) (l : Fin 128) :
    k0_pay1 tile k (ix3 u r l)
      = if r.val = 0 ∧ l.val = 1 then (tile (ix3 (0 : Fin 1) r l) + (2 * k : EReal) : EReal) else tile (ix3 (0 : Fin 1) r l) := by
  unfold k0_pay1
  rw [shapeCast_ab_1ab_apply]
  show (shapeCast S8x128 tile shapeCasts_S1x8x128_S8x128 (ix2 r l)
    + (Scalar.select (Scalar.andi (Scalar.cmpi .eq (iota .tc S8x128 32 [0] iota_S8x128_d0_w32 (ix2 r l)) 0#32)
        (Scalar.cmpi .eq (iota .tc S8x128 32 [1] iota_S8x128_d1_w32 (ix2 r l)) 1#32))
      (Ideal.ofBits .f32 0x40000000#32 * k : EReal) (Ideal.ofBits .f32 0x00000000#32) : EReal) : EReal) = _
  rw [shapeCast_1ab_ab_apply, iota_single_apply, iota_single_apply, ofBits_two, ofBits_zero]
  rw [show Scalar.andi (Scalar.cmpi .eq (BitVec.ofNat 32 ((ix2 r l : S8x128.Idx) 0).val) 0#32)
      (Scalar.cmpi .eq (BitVec.ofNat 32 ((ix2 r l : S8x128.Idx) 1).val) 1#32) = if r.val = 0 ∧ l.val = 1 then 1#1 else 0#1 from
    mask_apply r l]
  split
  · rfl
  · exact add_zero _

/-- At a point that does not update, the buffer ends as the block it was given. -/
theorem out_copy {F : FTy → Type} [FloatOps F] (c : Dev nD) (i : grid0.Coords) (arg2 : Memref sig .tc .smem S1 .f32) (h2 : arg2.IsWhole)
    (arg3 : Memref sig .tc .vmem S1x1024x1024 .f32) (h3 : arg3.IsWhole) (arg4 : Memref sig .tc .vmem S1x1024x1024 .f32)
    (h4 : arg4.IsWhole) (hc : ¬cond0_0 i) (x0 : Vec F S1 .f32) (x1 : Vec F S1x1024x1024 .f32) :
    out0_A_2 c i arg2 h2 arg3 h3 arg4 h4 hc x0 x1 = x1 := by
  unfold out0_A_2 kernelRun0_A
  rw [View.read_writes_junk_eq_canon, View.canon_unit_zero zeros, View.readAt_eq_ld, h3.read_unread, View.ld_unit_zero zeros]

/-- The block with twice the key added at row 0, column 1. -/
def bumped (key : Vec Ideal S1 .f32) (block : Vec Ideal S1x1024x1024 .f32) : Vec Ideal S1x1024x1024 .f32 :=
  fun y => if (y 1).val = 0 ∧ (y 2).val = 1 then (block y + (2 * key keyAt : EReal) : EReal) else block y

/-- At the updating point, the buffer ends as the block with the update: inside the first 8 by 128 tile the newer store
    is read, outside it the older one, which is the copy of the block. -/
theorem out_update (c : Dev nD) (i : grid0.Coords) (arg2 : Memref sig .tc .smem S1 .f32) (h2 : arg2.IsWhole)
    (arg3 : Memref sig .tc .vmem S1x1024x1024 .f32) (h3 : arg3.IsWhole) (arg4 : Memref sig .tc .vmem S1x1024x1024 .f32)
    (h4 : arg4.IsWhole) (hc : cond0_0 i) (x0 : Vec Ideal S1 .f32) (x1 : Vec Ideal S1x1024x1024 .f32) :
    out0_B_2 c i arg2 h2 arg3 h3 arg4 h4 hc x0 x1 = bumped x0 x1 := by
  have hcopy : kernelRun0_B.sl.H2_1 c arg3 h3 x1
      = [⟨Rect.unit ![0, 0, 0] S1x1024x1024.size inb_S1x1024x1024_S1x1024x1024_0_0_0, x1⟩] := by
    unfold kernelRun0_B.sl.H2_1
    rw [View.readAt_eq_ld, h3.read_unread, View.ld_unit_zero zeros]
  have hkey : kernelRun0_B.sl.r c arg2 h2 x0 = x0 keyAt := by
    unfold kernelRun0_B.sl.r
    rw [View.readAt_eq_ld, h2.read_unread]
    exact congrArg x0 (funext fun a => by match a with | ⟨0, _⟩ => rfl)
  have htile : ∀ (r : Fin 8) (l : Fin 128), kernelRun0_B.sl.v7 c arg3 h3 arg4 x1 (ix3 (0 : Fin 1) r l)
      = x1 (ix3 (0 : Fin 1) (r.castLE (by decide) : Fin 1024) (l.castLE (by decide) : Fin 1024)) := by
    intro r l
    unfold kernelRun0_B.sl.v7
    rw [hcopy, View.readCov_eq_canon_ld _ _ _ (fun y => ⟨_, List.mem_singleton_self _, View.mem_set_unit_zero zeros inb_S1x1024x1024_S1x1024x1024_0_0_0 _⟩),
      View.canon_unit_zero zeros, View.ld_unit]
    exact congrArg x1 (funext fun a => by
      match a with
      | ⟨0, _⟩ => rfl
      | ⟨1, _⟩ => exact Fin.ext (Nat.zero_add _)
      | ⟨2, _⟩ => exact Fin.ext (Nat.zero_add _))
  unfold out0_B_2 kernelRun0_B
  dsimp only
  rw [hcopy, hkey]
  funext y
  by_cases hy : (y 1).val < 8 ∧ (y 2).val < 128
  · refine (View.read_writes_cons_unit_of_mem VO0_2 _ _ _ _ y (ix3 (0 : Fin 1) (⟨(y 1).val, hy.1⟩ : Fin 8) (⟨(y 2).val, hy.2⟩ : Fin 128)) zeros
      (fun a => by
        match a with
        | ⟨0, _⟩ => exact (Nat.lt_one_iff.mp (y 0).isLt).trans (Nat.zero_add _).symm
        | ⟨1, _⟩ => exact (Nat.zero_add _).symm
        | ⟨2, _⟩ => exact (Nat.zero_add _).symm)).trans ?_
    rw [payload_apply, htile]
    have hback : ix3 (0 : Fin 1) ((⟨(y 1).val, hy.1⟩ : Fin 8).castLE (by decide) : Fin 1024)
        ((⟨(y 2).val, hy.2⟩ : Fin 128).castLE (by decide) : Fin 1024) = y := by
      funext a
      match a with
      | ⟨0, _⟩ => exact Fin.ext (Nat.lt_one_iff.mp (y 0).isLt).symm
      | ⟨1, _⟩ => rfl
      | ⟨2, _⟩ => rfl
    rw [hback]
    rfl
  · have hne : ¬((y 1).val = 0 ∧ (y 2).val = 1) := fun h => hy (by omega)
    unfold bumped
    rw [if_neg hne]
    have hold : VO0_2.read (Elt Ideal) (VO0_2.writes (Elt Ideal) VO0_2.junk
        [⟨Rect.unit ![0, 0, 0] S1x1024x1024.size inb_S1x1024x1024_S1x1024x1024_0_0_0, x1⟩]) y = x1 y := by
      rw [View.read_writes_junk_eq_canon, View.canon_unit_zero zeros]
    rcases Nat.lt_or_ge (y 1).val 8 with h1 | h1
    · exact (View.read_writes_cons_unit_of_not_mem VO0_2 _ _ _ _ y zeros 2
        (Or.inr (by have : ¬ (y 2).val < 128 := fun h => hy ⟨h1, h⟩; show 0 + 128 ≤ (y 2).val; omega))).trans hold
    · exact (View.read_writes_cons_unit_of_not_mem VO0_2 _ _ _ _ y zeros 1
        (Or.inr (by show 0 + 8 ≤ (y 1).val; omega))).trans hold

end Cert.Proof.Block

end
-- ==== Proof.Array.lean ====
/- What the kernel's result array holds after the run. Grid point `t` is given block `t / 16` of the planes and block
   `t % 16` of the rows, and writes the same block of the result; point 16, plane 1 and rows 0 to 1023, holds the
   updated cell. So every point writes its block of the updated cache, and the 32 blocks cover the array. -/
module

public import proofs.«01_k».proof.Proof.Block

@[expose] public section

noncomputable section

namespace Cert.Proof.Array

open Cert.KernelIdeal Cert.KernelIdeal.Gen Cert.KernelIdeal.Value Cert.Proof.Cell Cert.Proof.Block Idealize.ShloMosaic
open Idealize.ShloMosaic.TcCoe Idealize.SL.Sem Idealize.ShloMosaic.ValueIdx

variable (m : (ℓ : Loc nD τ sig) → Buf (Elt Ideal) ℓ) (ρ : Dev nD → PrngReg)

/-- The block of point `t`: plane `t / 16`, block `t % 16` of the rows, all the columns; the key's block is the key. -/
theorem idx_out : ∀ t : Fin cfg0.N, win0_2.index t (0 : Fin 3) = t.val / 16 ∧ win0_2.index t (1 : Fin 3) = t.val % 16
    ∧ win0_2.index t (2 : Fin 3) = 0 := (by decide +kernel : ∀ t : Fin grid0.N, _)
theorem idx_in : ∀ t : Fin cfg0.N, win0_1.index t = win0_2.index t := (by decide +kernel : ∀ t : Fin grid0.N, _)
theorem idx_key : ∀ t : Fin cfg0.N, win0_0.index t (0 : Fin 1) = 0 := (by decide +kernel : ∀ t : Fin grid0.N, _)

/-- Where place `j` of point `t`'s output block lies in the result, axis by axis. -/
theorem emb_out (t : Fin cfg0.N) (j : S1x1024x1024.Idx) :
    (((cfg0.win 2).blk t).view.emb j (0 : Fin 3)).val = t.val / 16
      ∧ (((cfg0.win 2).blk t).view.emb j (1 : Fin 3)).val = t.val % 16 * 1024 + (j 1).val
      ∧ (((cfg0.win 2).blk t).view.emb j (2 : Fin 3)).val = (j 2).val := by
  obtain ⟨e0, e1, e2⟩ := idx_out t
  have hj : (j 0).val < 1 := (j 0).isLt
  refine ⟨?_, ?_, ?_⟩
  · show win0_2.index t (0 : Fin 3) * 1 + 1 * (j 0).val = _; omega
  · show win0_2.index t (1 : Fin 3) * 1024 + 1 * (j 1).val = _; omega
  · show win0_2.index t (2 : Fin 3) * 1024 + 1 * (j 2).val = _; omega

/-- The input block is read at the place where the output block is written. -/
theorem emb_in (t : Fin cfg0.N) (j : S1x1024x1024.Idx) :
    ((cfg0.win 1).blk t).view.emb j = ((cfg0.win 2).blk t).view.emb j := by
  funext a; apply Fin.ext
  show win0_1.index t a * S1x1024x1024.size a + 1 * (j a).val = win0_2.index t a * S1x1024x1024.size a + 1 * (j a).val
  rw [idx_in]

/-- The key's block at any point is the key. -/
theorem iblk_key (c : Dev nD) (t : Fin cfg0.N) : iblk m c 0 t = V m c main_arg0 := by
  funext j
  refine congrArg (V m c main_arg0) (funext fun a => Fin.ext ?_)
  match a with
  | ⟨0, _⟩ => show win0_0.index t (0 : Fin 1) * 1 + 1 * (j 0).val = (j 0).val; rw [idx_key]; omega

/-- What point `t` writes back is its block of the updated cache. -/
theorem flushed_eq (c : Dev nD) (t : Fin cfg0.N) :
    (dats m 0 c).flushed 2 t
      = ((cfg0.win 2).blk t).view.read (Elt Ideal) (updated (V m c main_arg0) (V m c main_arg1)) := by
  have hN : t.val < 32 := lt_of_lt_of_eq t.isLt (show cfg0.N = 32 from N_0)
  have hread : ∀ j : S1x1024x1024.Idx, iblk m c 1 t j = V m c main_arg1 (((cfg0.win 2).blk t).view.emb j) := fun j =>
    congrArg (V m c main_arg1) (emb_in t j)
  funext j
  obtain ⟨e0, e1, e2⟩ := emb_out t j
  have hj1 : (j 1).val < 1024 := (j 1).isLt
  show _ = updated (V m c main_arg0) (V m c main_arg1) (((cfg0.win 2).blk t).view.emb j)
  unfold updated
  by_cases h : t.val % 32 = 16
  · rw [flushed2_B m c t h, out_update, iblk_key]
    show bumped _ _ j = _
    unfold bumped
    rw [hread j]
    exact if_congr (by unfold IsCell; omega) rfl rfl
  · rw [flushed2_A m c t h, out_copy]
    show iblk m c 1 t j = _
    rw [hread j, if_neg]
    unfold IsCell; omega

/-- Every index of the result is in some point's block. -/
theorem covered (i : S2x16384x1024.Idx) :
    ∃ t : Fin cfg0.N, (cfg0.win 2).flush t = true ∧ i ∈ ((cfg0.win 2).blk t).view.set := by
  have h0 : (i 0).val < 2 := (i 0).isLt
  have h1 : (i 1).val < 16384 := (i 1).isLt
  have h2 : (i 2).val < 1024 := (i 2).isLt
  let t : Fin cfg0.N := ⟨(i 0).val * 16 + (i 1).val / 1024, by rw [show cfg0.N = 32 from N_0]; omega⟩
  let j : S1x1024x1024.Idx := ix3 (0 : Fin 1) (⟨(i 1).val % 1024, by omega⟩ : Fin 1024) (⟨(i 2).val, h2⟩ : Fin 1024)
  obtain ⟨e0, e1, e2⟩ := emb_out t j
  have ht : t.val = (i 0).val * 16 + (i 1).val / 1024 := rfl
  have hj1 : (j 1).val = (i 1).val % 1024 := rfl
  have hj2 : (j 2).val = (i 2).val := rfl
  refine ⟨t, flush0_2 t, ?_⟩
  have hi : ((cfg0.win 2).blk t).view.emb j = i := funext fun a => Fin.ext (by
    match a with
    | ⟨0, _⟩ => exact e0.trans (show t.val / 16 = (i 0).val by omega)
    | ⟨1, _⟩ => exact e1.trans (show t.val % 16 * 1024 + (j 1).val = (i 1).val by omega)
    | ⟨2, _⟩ => exact e2.trans hj2)
  have h := ((cfg0.win 2).blk t).view.emb_mem_set j
  rwa [hi] at h

/-- The kernel's run: the result array ends as the updated cache, and the arguments as they were. -/
theorem run : θ_run defs (onTc (τ := τ) (main (F := Ideal))) ⟨m, fun _ => 0, ρ⟩ fun r => ∀ c : Dev nD,
      r.2.mem ((c : Thread nD τ).loc main_v0)
        = updated (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans
      ((dats m 0 c).arrAt_eq_of_cover 2 (updated (V m c main_arg0) (V m c main_arg1)) (fun t _ => flushed_eq m c t) covered),
      (h c).2⟩) (run_blocks m ρ)

end Cert.Proof.Array

end
-- ==== Proof.Reference.lean ====
/- What the reference leaves in its second result: its scatter has one update, at the index (1, 0, 1), so the result is
   the cache with the update added at that cell. -/
module

public import proofs.«01_k».proof.Proof.Gen.ReferenceIdeal.Run
public import proofs.«01_k».proof.Proof.Cell

@[expose] public section

noncomputable section

namespace Cert.Proof.Ref

open Cert.ReferenceIdeal Cert.ReferenceIdeal.Gen Cert.Proof.Cell Idealize.ShloMosaic Idealize.ShloMosaic.StableHlo
open Idealize.ShloMosaic.ValueIdx

/-- The three index words, as the reference concatenates them. -/
abbrev words : IVec S3 32 :=
  concatenate S3 0 [⟨S1, broadcastInDim S1 ![] bcast_S_S1 (constantI S_ 32 1#32)⟩,
    ⟨S1, broadcastInDim S1 ![] bcast_S_S1 (constantI S_ 32 0#32)⟩,
    ⟨S1, broadcastInDim S1 ![] bcast_S_S1 (constantI S_ 32 1#32)⟩] concatenates_S1_S1_S1_S3_d0

/-- The updated cell as an index. -/
abbrev cell : S2x16384x1024.Idx := ix3 (1 : Fin 2) (0 : Fin 16384) (1 : Fin 1024)

/-- The scatter's one update lands at the cell (1, 0, 1). -/
theorem lands (j : S_.Idx) : scatter_S2x16384x1024_S3_S__n_012_012_0.resultIdx? j words = some cell := by
  have hs : ∀ a, scatter_S2x16384x1024_S3_S__n_012_012_0.start j words a = ((cell a).val : Int) := by
    intro a
    match a with
    | ⟨0, _⟩ => rfl
    | ⟨1, _⟩ => rfl
    | ⟨2, _⟩ => rfl
  have hw : ∀ a, scatter_S2x16384x1024_S3_S__n_012_012_0.window j a = 0 := by
    intro a
    match a with
    | ⟨0, _⟩ => rfl
    | ⟨1, _⟩ => rfl
    | ⟨2, _⟩ => rfl
  unfold ScatterDims.resultIdx?
  rw [dif_pos (fun a => by rw [hs, hw]; have := (cell a).isLt; omega)]
  exact congrArg some (funext fun a => Fin.ext (by show (_ + _ : Int).toNat = _; rw [hs, hw]; omega))

/-- The reference's second result is the updated cache. -/
theorem result_eq (key : Vec Ideal S1 .f32) (cache : Vec Ideal S2x16384x1024 .f32) :
    Host.scatter scatter_S2x16384x1024_S3_S__n_012_012_0 (FloatOps.addf (F := Ideal) (φ := .f32)) cache words
      (mulf (constant S_ .f32 0x40000000#32) (shapeCast S_ key shapeCasts_S1_S_)) = updated key cache := by
  have hu : ∀ j : S_.Idx, mulf (F := Ideal) (φ := .f32) (constant S_ .f32 0x40000000#32) (shapeCast S_ key shapeCasts_S1_S_) j
      = (2 * key keyAt : EReal) := by
    intro j
    show (Ideal.ofBits .f32 0x40000000#32 * key _ : EReal) = _
    rw [ofBits_two]
    exact congrArg (fun k : S1.Idx => (2 * key k : EReal)) (funext fun a => by
      match a with
      | ⟨0, _⟩ => exact Fin.ext (Nat.lt_one_iff.mp (Fin.isLt _)))
  have hone : List.finRange S_.numel = [⟨0, by decide⟩] := by decide
  funext i
  unfold Host.scatter updated
  rw [hone]
  simp only [List.foldl_cons, List.foldl_nil, lands, hu]
  by_cases hi : i = cell
  · subst hi
    rw [if_pos rfl, if_pos ⟨rfl, rfl, rfl⟩]
    rfl
  · rw [if_neg hi, if_neg fun h => hi ?_]
    funext a
    match a with
    | ⟨0, _⟩ => exact Fin.ext h.1
    | ⟨1, _⟩ => exact Fin.ext h.2.1
    | ⟨2, _⟩ => exact Fin.ext h.2.2

end Cert.Proof.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and has no semaphore that could stay raised. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- From equal arguments the kernel and the reference end with equal results: the key, and the updated cache. -/
theorem algebraic : Cert.algebraic_KernelIdeal_ReferenceIdeal := by
  intro m g m' g' _ hagree
  refine ⟨fun c => m (c.tc.loc Cert.KernelIdeal.main_arg0),
    fun c => Cell.updated (m (c.tc.loc Cert.KernelIdeal.main_arg0)) (m (c.tc.loc Cert.KernelIdeal.main_arg1)), ?_, ?_⟩
  · exact (θ_run Cert.KernelIdeal.defs _ _).mono (fun _ h c => ⟨(h c).2.1, (h c).1, (h c).2⟩) (Array.run m g)
  · refine (θ_run Cert.ReferenceIdeal.defs _ _).mono
      (fun _ h c => ⟨(h c).1.trans (hagree c).1, (h c).2.1.trans ((Ref.result_eq _ _).trans ?_), (h c).2.2⟩)
      (Cert.ReferenceIdeal.Value.run (F := Ideal) m' g')
    rw [(hagree c).1, (hagree c).2]

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
